-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "freq" .f32 0xBC935D8E#32 ((-((1 / 512) * (Real.log 10000)) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S4x256x1024 : Shape := ⟨3, ![4, 256, 1024]⟩
abbrev S8x1024 : Shape := ⟨2, ![8, 1024]⟩
abbrev S1x8x1024 : Shape := ⟨3, ![1, 8, 1024]⟩
abbrev S4x8x1024 : Shape := ⟨3, ![4, 8, 1024]⟩

abbrev nBuf : Space → Nat
  | .hbm => 3
  | .vmem => 2
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .local _ .vmem, ⟨0, _⟩ => ⟨S4x256x1024, .f32⟩
  | .local _ .vmem, ⟨1, _⟩ => ⟨S4x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== KernelIdeal.lean ====
variable {F : FTy → Type} [FloatOps F] [Named F]
def κ : String → Option EReal := fun
  | "freq" => some ((-((1 / 512) * (Real.log 10000)) : ℝ) : EReal)
  | _ => none
-- ==== ReferenceIdeal.lean ====
abbrev S4x8192x1024 : Shape := ⟨3, ![4, 8192, 1024]⟩
abbrev S8192 : Shape := ⟨1, ![8192]⟩
abbrev S8192x1 : Shape := ⟨2, ![8192, 1]⟩
abbrev S1024 : Shape := ⟨1, ![1024]⟩
abbrev S_ : Shape := ⟨0, ![]⟩
abbrev S1x1024 : Shape := ⟨2, ![1, 1024]⟩
abbrev S8192x1024 : Shape := ⟨2, ![8192, 1024]⟩
abbrev S8192x512 : Shape := ⟨2, ![8192, 512]⟩
abbrev S8192x512x1 : Shape := ⟨3, ![8192, 512, 1]⟩
abbrev S8192x512x2 : Shape := ⟨3, ![8192, 512, 2]⟩
abbrev S8191x1024 : Shape := ⟨2, ![8191, 1024]⟩
abbrev S1x8192 : Shape := ⟨2, ![1, 8192]⟩
abbrev S1x1x1x8192 : Shape := ⟨4, ![1, 1, 1, 8192]⟩
abbrev S4x1x1x8192 : Shape := ⟨4, ![4, 1, 1, 8192]⟩
abbrev S4x8192 : Shape := ⟨2, ![4, 8192]⟩
abbrev S4x8192x1 : Shape := ⟨3, ![4, 8192, 1]⟩
abbrev S1 : Shape := ⟨1, ![1]⟩
abbrev S1x1x1 : Shape := ⟨3, ![1, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S8192, .f32⟩
  | .hbm, ⟨3, _⟩ => ⟨S8192x1, .f32⟩
  | .hbm, ⟨4, _⟩ => ⟨S1024, .i32⟩
  | .hbm, ⟨5, _⟩ => ⟨S_, .i32⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S1024, .i1⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512x1, .f32⟩
  | .hbm, ⟨42, _⟩ => ⟨S8192x512x1, .f32⟩
  | .hbm, ⟨43, _⟩ => ⟨S8192x512x2, .f32⟩
  | .hbm, ⟨44, _⟩ => ⟨S8192x1024, .f32⟩
  | .hbm, ⟨45, _⟩ => ⟨S_, .f32⟩
  | .hbm, ⟨46, _⟩ => ⟨S1x1024, .f32⟩
  | .hbm, ⟨47, _⟩ => ⟨S8191x1024, .f32⟩
  | .hbm, ⟨48, _⟩ => ⟨S8192x1024, .f32⟩
  | .hbm, ⟨49, _⟩ => ⟨S8192, .i32⟩
  | .hbm, ⟨50, _⟩ => ⟨S1x8192, .i32⟩
  | .hbm, ⟨51, _⟩ => ⟨S1x1x1x8192, .i32⟩
  | .hbm, ⟨52, _⟩ => ⟨S4x1x1x8192, .i32⟩
  | .hbm, ⟨53, _⟩ => ⟨S4x8192, .i32⟩
  | .hbm, ⟨54, _⟩ => ⟨S_, .i32⟩
  | .hbm, ⟨55, _⟩ => ⟨S4x8192, .i32⟩
  | .hbm, ⟨56, _⟩ => ⟨S4x8192, .i1⟩
  | .hbm, ⟨57, _⟩ => ⟨S_, .i32⟩
  | .hbm, ⟨58, _⟩ => ⟨S4x8192, .i32⟩
  | .hbm, ⟨59, _⟩ => ⟨S4x8192, .i32⟩
  | .hbm, ⟨60, _⟩ => ⟨S4x8192, .i32⟩
  | .hbm, ⟨61, _⟩ => ⟨S4x8192x1, .i32⟩
  | .hbm, ⟨62, _⟩ => ⟨S1, .i32⟩
  | .hbm, ⟨63, _⟩ => ⟨S_, .i32⟩
  | .hbm, ⟨64, _⟩ => ⟨S4x8192x1, .i32⟩
  | .hbm, ⟨65, _⟩ => ⟨S4x8192x1, .i1⟩
  | .hbm, ⟨66, _⟩ => ⟨S1x1x1, .i32⟩
  | .hbm, ⟨67, _⟩ => ⟨S4x8192x1, .i32⟩
  | .hbm, ⟨68, _⟩ => ⟨S4x8192x1, .i1⟩
  | .hbm, ⟨69, _⟩ => ⟨S4x8192x1, .i1⟩
  | .hbm, ⟨70, _⟩ => ⟨S_, .i1⟩
  | .hbm, ⟨71, _⟩ => ⟨S4x8192, .i1⟩
  | .hbm, ⟨72, _⟩ => ⟨S4x8192x1024, .f32⟩
  | .hbm, ⟨73, _⟩ => ⟨S4x8192x1024, .i1⟩
  | .hbm, ⟨74, _⟩ => ⟨S_, .f32⟩
  | .hbm, ⟨75, _⟩ => ⟨S4x8192x1024, .f32⟩
  | .hbm, ⟨76, _⟩ => ⟨S4x8192x1024, .f32⟩
  | .hbm, ⟨77, _⟩ => ⟨S_, .f32⟩
  | .hbm, ⟨78, _⟩ => ⟨S4x8192x1024, .f32⟩
  | .hbm, ⟨79, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v31 : Ref sig .tc := ⟨.hbm, 76, rfl⟩
abbrev main_cst_3 : Ref sig .tc := ⟨.hbm, 77, rfl⟩
abbrev main_v32 : Ref sig .tc := ⟨.hbm, 78, rfl⟩
abbrev main_v33 : Ref sig .tc := ⟨.hbm, 79, rfl⟩

abbrev nD : Nat := 1
abbrev τ : Topo := Topo.v7x

variable {F : FTy → Type} [FloatOps F]
-- ==== Proof.IdealRun.lean ====
/- The run of the idealized kernel: what its body leaves in the output block at each grid point, and from that the run of the
   whole program. The generated frame module of this program ends in a doc comment with no declaration after it (the
   kernel has no input window), so that it does not parse; its set-up is written out here. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

-- membership in a rectangle recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The 32 bands of eight rows that the body stores -/

abbrev r0_0 : Rect S4x256x1024 := Rect.unit (s := S4x256x1024) ![0, 0, 0] S4x8x1024.size inb_S4x256x1024_S4x8x1024_0_0_0
abbrev r0_1 : Rect S4x256x1024 := Rect.unit (s := S4x256x1024) ![0, 8, 0] S4x8x1024.size inb_S4x256x1024_S4x8x1024_0_8_0
abbrev r0_2 : Rect S4x256x1024 := Rect.unit (s := S4x256x1024) ![0, 16, 0] S4x8x1024.size inb_S4x256x1024_S4x8x1024_0_16_0
abbrev r0_3 : Rect S4x256x1024 := Rect.unit (s := S4x256x1024) ![0, 24, 0] S4x8x1024.size inb_S4x256x1024_S4x8x1024_0_24_0
abbrev r0_4 : Rect S4x256x1024 := Rect.unit (s := S4x256x1024) ![0, 32, 0] S4x8x1024.size inb_S4x256x1024_S4x8x1024_0_32_0
abbrev r0_5 : Rect S4x256x1024 := Rect.unit (s := S4x256x1024) ![0, 40, 0] S4x8x1024.size inb_S4x256x1024_S4x8x1024_0_40_0
abbrev r0_6 : Rect S4x256x1024 := Rect.unit (s := S4x256x1024) ![0, 48, 0] S4x8x1024.size inb_S4x256x1024_S4x8x1024_0_48_0
abbrev r0_7 : Rect S4x256x1024 := Rect.unit (s := S4x256x1024) ![0, 56, 0] S4x8x1024.size inb_S4x256x1024_S4x8x1024_0_56_0
abbrev r0_8 : Rect S4x256x1024 := Rect.unit (s := S4x256x1024) ![0, 64, 0] S4x8x1024.size inb_S4x256x1024_S4x8x1024_0_64_0
abbrev r0_9 : Rect S4x256x1024 := Rect.unit (s := S4x256x1024) ![0, 72, 0] S4x8x1024.size inb_S4x256x1024_S4x8x1024_0_72_0
abbrev r0_10 : Rect S4x256x1024 := Rect.unit (s := S4x256x1024) ![0, 80, 0] S4x8x1024.size inb_S4x256x1024_S4x8x1024_0_80_0
abbrev r0_11 : Rect S4x256x1024 := Rect.unit (s := S4x256x1024) ![0, 88, 0] S4x8x1024.size inb_S4x256x1024_S4x8x1024_0_88_0
abbrev r0_12 : Rect S4x256x1024 := Rect.unit (s := S4x256x1024) ![0, 96, 0] S4x8x1024.size inb_S4x256x1024_S4x8x1024_0_96_0
abbrev r0_13 : Rect S4x256x1024 := Rect.unit (s := S4x256x1024) ![0, 104, 0] S4x8x1024.size inb_S4x256x1024_S4x8x1024_0_104_0
abbrev r0_14 : Rect S4x256x1024 := Rect.unit (s := S4x256x1024) ![0, 112, 0] S4x8x1024.size inb_S4x256x1024_S4x8x1024_0_112_0
abbrev r0_15 : Rect S4x256x1024 := Rect.unit (s := S4x256x1024) ![0, 120, 0] S4x8x1024.size inb_S4x256x1024_S4x8x1024_0_120_0
abbrev r0_16 : Rect S4x256x1024 := Rect.unit (s := S4x256x1024) ![0, 128, 0] S4x8x1024.size inb_S4x256x1024_S4x8x1024_0_128_0
abbrev r0_17 : Rect S4x256x1024 := Rect.unit (s := S4x256x1024) ![0, 136, 0] S4x8x1024.size inb_S4x256x1024_S4x8x1024_0_136_0
abbrev r0_18 : Rect S4x256x1024 := Rect.unit (s := S4x256x1024) ![0, 144, 0] S4x8x1024.size inb_S4x256x1024_S4x8x1024_0_144_0
abbrev r0_19 : Rect S4x256x1024 := Rect.unit (s := S4x256x1024) ![0, 152, 0] S4x8x1024.size inb_S4x256x1024_S4x8x1024_0_152_0
abbrev r0_20 : Rect S4x256x1024 := Rect.unit (s := S4x256x1024) ![0, 160, 0] S4x8x1024.size inb_S4x256x1024_S4x8x1024_0_160_0
abbrev r0_21 : Rect S4x256x1024 := Rect.unit (s := S4x256x1024) ![0, 168, 0] S4x8x1024.size inb_S4x256x1024_S4x8x1024_0_168_0
abbrev r0_22 : Rect S4x256x1024 := Rect.unit (s := S4x256x1024) ![0, 176, 0] S4x8x1024.size inb_S4x256x1024_S4x8x1024_0_176_0
abbrev r0_23 : Rect S4x256x1024 := Rect.unit (s := S4x256x1024) ![0, 184, 0] S4x8x1024.size inb_S4x256x1024_S4x8x1024_0_184_0
abbrev r0_24 : Rect S4x256x1024 := Rect.unit (s := S4x256x1024) ![0, 192, 0] S4x8x1024.size inb_S4x256x1024_S4x8x1024_0_192_0
abbrev r0_25 : Rect S4x256x1024 := Rect.unit (s := S4x256x1024) ![0, 200, 0] S4x8x1024.size inb_S4x256x1024_S4x8x1024_0_200_0
abbrev r0_26 : Rect S4x256x1024 := Rect.unit (s := S4x256x1024) ![0, 208, 0] S4x8x1024.size inb_S4x256x1024_S4x8x1024_0_208_0
abbrev r0_27 : Rect S4x256x1024 := Rect.unit (s := S4x256x1024) ![0, 216, 0] S4x8x1024.size inb_S4x256x1024_S4x8x1024_0_216_0
abbrev r0_28 : Rect S4x256x1024 := Rect.unit (s := S4x256x1024) ![0, 224, 0] S4x8x1024.size inb_S4x256x1024_S4x8x1024_0_224_0
abbrev r0_29 : Rect S4x256x1024 := Rect.unit (s := S4x256x1024) ![0, 232, 0] S4x8x1024.size inb_S4x256x1024_S4x8x1024_0_232_0
abbrev r0_30 : Rect S4x256x1024 := Rect.unit (s := S4x256x1024) ![0, 240, 0] S4x8x1024.size inb_S4x256x1024_S4x8x1024_0_240_0
abbrev r0_31 : Rect S4x256x1024 := Rect.unit (s := S4x256x1024) ![0, 248, 0] S4x8x1024.size inb_S4x256x1024_S4x8x1024_0_248_0

/-! ## The values that more than one band is computed from -/

def k0_pay110 (i : grid0.Coords)  : FVec F S8x1024 .f32 :=
  k0_pay1 (F := F)
def k0_pay111 (i : grid0.Coords)  : IVec S8x1024 32 :=
  k0_pay2
def k0_pay112 (i : grid0.Coords)  : IVec S8x1024 1 :=
  k0_pay3
def k0_pay113 (i : grid0.Coords)  : IVec S8x1024 32 :=
  k0_pay4
def k0_pay114 (i : grid0.Coords)  : FVec F S8x1024 .f32 :=
  k0_pay13 (k0_pay110 i (F := F))
def k0_pay115 (i : grid0.Coords)  : FVec F S8x1024 .f32 :=
  k0_pay14 (k0_pay110 i (F := F)) (k0_pay111 i) (k0_pay112 i) (k0_pay113 i)
def k0_pay116 (i : grid0.Coords)  : FVec F S8x1024 .f32 :=
  k0_pay16 (Scalar.muli (BitVec.ofNat 32 (i 0).val) 256#32) (k0_pay110 i (F := F)) (k0_pay111 i) (k0_pay112 i) (k0_pay113 i)
def k0_pay117 (i : grid0.Coords)  : FVec F S8x1024 .f32 :=
  k0_pay17 (Scalar.muli (BitVec.ofNat 32 (i 0).val) 256#32) (k0_pay110 i (F := F)) (k0_pay111 i) (k0_pay112 i) (k0_pay113 i)
def k0_pay118 (i : grid0.Coords)  : FVec F S8x1024 .f32 :=
  k0_pay19 (Scalar.muli (BitVec.ofNat 32 (i 0).val) 256#32) (k0_pay110 i (F := F)) (k0_pay111 i) (k0_pay112 i) (k0_pay113 i)
def k0_pay119 (i : grid0.Coords)  : FVec F S8x1024 .f32 :=
  k0_pay31 (k0_pay114 i (F := F)) (k0_pay115 i (F := F)) (k0_pay116 i (F := F)) (k0_pay117 i (F := F)) (k0_pay118 i (F := F))
def k0_pay120 (i : grid0.Coords)  : FVec F S8x1024 .f32 :=
  k0_pay32 (k0_pay114 i (F := F)) (k0_pay115 i (F := F)) (k0_pay116 i (F := F)) (k0_pay117 i (F := F)) (k0_pay118 i (F := F))
def k0_pay121 (i : grid0.Coords)  : FVec F S8x1024 .f32 :=
  k0_pay44 (k0_pay114 i (F := F)) (k0_pay115 i (F := F)) (k0_pay119 i (F := F)) (k0_pay120 i (F := F))
def k0_pay122 (i : grid0.Coords)  : FVec F S8x1024 .f32 :=
  k0_pay45 (k0_pay114 i (F := F)) (k0_pay115 i (F := F)) (k0_pay119 i (F := F)) (k0_pay120 i (F := F))
def k0_pay123 (i : grid0.Coords)  : FVec F S8x1024 .f32 :=
  k0_pay56 (k0_pay114 i (F := F)) (k0_pay115 i (F := F)) (k0_pay121 i (F := F)) (k0_pay122 i (F := F))
def k0_pay124 (i : grid0.Coords)  : FVec F S8x1024 .f32 :=
  k0_pay57 (k0_pay114 i (F := F)) (k0_pay115 i (F := F)) (k0_pay121 i (F := F)) (k0_pay122 i (F := F))
def k0_pay125 (i : grid0.Coords)  : FVec F S8x1024 .f32 :=
  k0_pay59 (k0_pay114 i (F := F)) (k0_pay115 i (F := F)) (k0_pay121 i (F := F)) (k0_pay122 i (F := F))
def k0_pay126 (i : grid0.Coords)  : FVec F S8x1024 .f32 :=
  k0_pay72 (k0_pay114 i (F := F)) (k0_pay115 i (F := F)) (k0_pay123 i (F := F)) (k0_pay124 i (F := F)) (k0_pay125 i (F := F))
def k0_pay127 (i : grid0.Coords)  : FVec F S8x1024 .f32 :=
  k0_pay73 (k0_pay114 i (F := F)) (k0_pay115 i (F := F)) (k0_pay123 i (F := F)) (k0_pay124 i (F := F)) (k0_pay125 i (F := F))
def k0_pay128 (i : grid0.Coords)  : FVec F S8x1024 .f32 :=
  k0_pay74 (k0_pay114 i (F := F)) (k0_pay115 i (F := F)) (k0_pay123 i (F := F)) (k0_pay124 i (F := F)) (k0_pay125 i (F := F))
def k0_pay129 (i : grid0.Coords)  : FVec F S8x1024 .f32 :=
  k0_pay86 (k0_pay114 i (F := F)) (k0_pay115 i (F := F)) (k0_pay126 i (F := F)) (k0_pay127 i (F := F)) (k0_pay128 i (F := F))
def k0_pay130 (i : grid0.Coords)  : FVec F S8x1024 .f32 :=
  k0_pay87 (k0_pay114 i (F := F)) (k0_pay115 i (F := F)) (k0_pay126 i (F := F)) (k0_pay127 i (F := F)) (k0_pay128 i (F := F))
def k0_pay131 (i : grid0.Coords)  : FVec F S8x1024 .f32 :=
  k0_pay98 (k0_pay114 i (F := F)) (k0_pay115 i (F := F)) (k0_pay129 i (F := F)) (k0_pay130 i (F := F))
def k0_pay132 (i : grid0.Coords)  : FVec F S8x1024 .f32 :=
  k0_pay99 (k0_pay114 i (F := F)) (k0_pay115 i (F := F)) (k0_pay129 i (F := F)) (k0_pay130 i (F := F))

/-- The output block after the body at grid point `i`: its 32 stores, the last one first. -/
def out0_0 (i : grid0.Coords)  : Vec F S4x256x1024 .f32 :=
  View.canon [⟨r0_31, k0_pay109 (k0_pay114 i (F := F)) (k0_pay115 i (F := F)) (k0_pay131 i (F := F)) (k0_pay132 i (F := F))⟩,
    ⟨r0_30, k0_pay108 (k0_pay114 i (F := F)) (k0_pay115 i (F := F)) (k0_pay131 i (F := F)) (k0_pay132 i (F := F))⟩,
    ⟨r0_29, k0_pay106 (k0_pay114 i (F := F)) (k0_pay115 i (F := F)) (k0_pay131 i (F := F)) (k0_pay132 i (F := F))⟩,
    ⟨r0_28, k0_pay103 (k0_pay114 i (F := F)) (k0_pay115 i (F := F)) (k0_pay131 i (F := F)) (k0_pay132 i (F := F))⟩,
    ⟨r0_27, k0_pay100 (k0_pay114 i (F := F)) (k0_pay115 i (F := F)) (k0_pay129 i (F := F)) (k0_pay130 i (F := F))⟩,
    ⟨r0_26, k0_pay97 (k0_pay114 i (F := F)) (k0_pay115 i (F := F)) (k0_pay129 i (F := F)) (k0_pay130 i (F := F))⟩,
    ⟨r0_25, k0_pay94 (k0_pay114 i (F := F)) (k0_pay115 i (F := F)) (k0_pay129 i (F := F)) (k0_pay130 i (F := F))⟩,
    ⟨r0_24, k0_pay91 (k0_pay114 i (F := F)) (k0_pay115 i (F := F)) (k0_pay129 i (F := F)) (k0_pay130 i (F := F))⟩,
    ⟨r0_23, k0_pay88 (k0_pay114 i (F := F)) (k0_pay115 i (F := F)) (k0_pay126 i (F := F)) (k0_pay127 i (F := F)) (k0_pay128 i (F := F))⟩,
    ⟨r0_22, k0_pay85 (k0_pay114 i (F := F)) (k0_pay115 i (F := F)) (k0_pay126 i (F := F)) (k0_pay127 i (F := F)) (k0_pay128 i (F := F))⟩,
    ⟨r0_21, k0_pay82 (k0_pay114 i (F := F)) (k0_pay115 i (F := F)) (k0_pay126 i (F := F)) (k0_pay127 i (F := F)) (k0_pay128 i (F := F))⟩,
    ⟨r0_20, k0_pay79 (k0_pay114 i (F := F)) (k0_pay115 i (F := F)) (k0_pay126 i (F := F)) (k0_pay127 i (F := F)) (k0_pay128 i (F := F))⟩,
    ⟨r0_19, k0_pay76 (k0_pay126 i (F := F))⟩,
    ⟨r0_18, k0_pay71 (k0_pay114 i (F := F)) (k0_pay115 i (F := F)) (k0_pay123 i (F := F)) (k0_pay124 i (F := F)) (k0_pay125 i (F := F))⟩,
    ⟨r0_17, k0_pay68 (k0_pay114 i (F := F)) (k0_pay115 i (F := F)) (k0_pay123 i (F := F)) (k0_pay124 i (F := F)) (k0_pay125 i (F := F))⟩,
    ⟨r0_16, k0_pay65 (k0_pay114 i (F := F)) (k0_pay115 i (F := F)) (k0_pay123 i (F := F)) (k0_pay124 i (F := F)) (k0_pay125 i (F := F))⟩,
    ⟨r0_15, k0_pay62 (k0_pay115 i (F := F)) (k0_pay124 i (F := F)) (k0_pay125 i (F := F))⟩,
    ⟨r0_14, k0_pay58 (k0_pay114 i (F := F)) (k0_pay115 i (F := F)) (k0_pay121 i (F := F)) (k0_pay122 i (F := F))⟩,
    ⟨r0_13, k0_pay55 (k0_pay114 i (F := F)) (k0_pay115 i (F := F)) (k0_pay121 i (F := F)) (k0_pay122 i (F := F))⟩,
    ⟨r0_12, k0_pay52 (k0_pay114 i (F := F)) (k0_pay115 i (F := F)) (k0_pay121 i (F := F)) (k0_pay122 i (F := F))⟩,
    ⟨r0_11, k0_pay49 (k0_pay114 i (F := F)) (k0_pay115 i (F := F)) (k0_pay121 i (F := F)) (k0_pay122 i (F := F))⟩,
    ⟨r0_10, k0_pay46 (k0_pay114 i (F := F)) (k0_pay115 i (F := F)) (k0_pay119 i (F := F)) (k0_pay120 i (F := F))⟩,
    ⟨r0_9, k0_pay43 (k0_pay114 i (F := F)) (k0_pay115 i (F := F)) (k0_pay119 i (F := F)) (k0_pay120 i (F := F))⟩,
    ⟨r0_8, k0_pay40 (k0_pay114 i (F := F)) (k0_pay115 i (F := F)) (k0_pay119 i (F := F)) (k0_pay120 i (F := F))⟩,
    ⟨r0_7, k0_pay37 (k0_pay114 i (F := F)) (k0_pay115 i (F := F)) (k0_pay119 i (F := F)) (k0_pay120 i (F := F))⟩,
    ⟨r0_6, k0_pay34 (k0_pay33 (k0_pay114 i (F := F)) (k0_pay115 i (F := F)) (k0_pay116 i (F := F)) (k0_pay117 i (F := F)) (k0_pay118 i (F := F)))⟩,
    ⟨r0_5, k0_pay30 (k0_pay114 i (F := F)) (k0_pay115 i (F := F)) (k0_pay116 i (F := F)) (k0_pay117 i (F := F)) (k0_pay118 i (F := F))⟩,
    ⟨r0_4, k0_pay27 (k0_pay114 i (F := F)) (k0_pay115 i (F := F)) (k0_pay116 i (F := F)) (k0_pay117 i (F := F)) (k0_pay118 i (F := F))⟩,
    ⟨r0_3, k0_pay24 (k0_pay114 i (F := F)) (k0_pay115 i (F := F)) (k0_pay116 i (F := F)) (k0_pay117 i (F := F)) (k0_pay118 i (F := F))⟩,
    ⟨r0_2, k0_pay21 (k0_pay118 i (F := F))⟩,
    ⟨r0_1, k0_pay18 (Scalar.muli (BitVec.ofNat 32 (i 0).val) 256#32) (k0_pay110 i (F := F)) (k0_pay111 i) (k0_pay112 i) (k0_pay113 i)⟩,
    ⟨r0_0, k0_pay15 (Scalar.muli (BitVec.ofNat 32 (i 0).val) 256#32) (k0_pay110 i (F := F)) (k0_pay111 i) (k0_pay112 i) (k0_pay113 i)⟩]

/-- The 32 bands cover the block. -/
theorem cover0_0 (p0 : Vec F S4x8x1024 .f32) (p1 : Vec F S4x8x1024 .f32) (p2 : Vec F S4x8x1024 .f32) (p3 : Vec F S4x8x1024 .f32) (p4 : Vec F S4x8x1024 .f32) (p5 : Vec F S4x8x1024 .f32) (p6 : Vec F S4x8x1024 .f32) (p7 : Vec F S4x8x1024 .f32) (p8 : Vec F S4x8x1024 .f32) (p9 : Vec F S4x8x1024 .f32) (p10 : Vec F S4x8x1024 .f32) (p11 : Vec F S4x8x1024 .f32) (p12 : Vec F S4x8x1024 .f32) (p13 : Vec F S4x8x1024 .f32) (p14 : Vec F S4x8x1024 .f32) (p15 : Vec F S4x8x1024 .f32) (p16 : Vec F S4x8x1024 .f32) (p17 : Vec F S4x8x1024 .f32) (p18 : Vec F S4x8x1024 .f32) (p19 : Vec F S4x8x1024 .f32) (p20 : Vec F S4x8x1024 .f32) (p21 : Vec F S4x8x1024 .f32) (p22 : Vec F S4x8x1024 .f32) (p23 : Vec F S4x8x1024 .f32) (p24 : Vec F S4x8x1024 .f32) (p25 : Vec F S4x8x1024 .f32) (p26 : Vec F S4x8x1024 .f32) (p27 : Vec F S4x8x1024 .f32) (p28 : Vec F S4x8x1024 .f32) (p29 : Vec F S4x8x1024 .f32) (p30 : Vec F S4x8x1024 .f32) (p31 : Vec F S4x8x1024 .f32) (y : S4x256x1024.Idx) :
    ∃ pc ∈ ([⟨r0_31, p0⟩, ⟨r0_30, p1⟩, ⟨r0_29, p2⟩, ⟨r0_28, p3⟩, ⟨r0_27, p4⟩, ⟨r0_26, p5⟩, ⟨r0_25, p6⟩, ⟨r0_24, p7⟩, ⟨r0_23, p8⟩, ⟨r0_22, p9⟩, ⟨r0_21, p10⟩, ⟨r0_20, p11⟩, ⟨r0_19, p12⟩, ⟨r0_18, p13⟩, ⟨r0_17, p14⟩, ⟨r0_16, p15⟩, ⟨r0_15, p16⟩, ⟨r0_14, p17⟩, ⟨r0_13, p18⟩, ⟨r0_12, p19⟩, ⟨r0_11, p20⟩, ⟨r0_10, p21⟩, ⟨r0_9, p22⟩, ⟨r0_8, p23⟩, ⟨r0_7, p24⟩, ⟨r0_6, p25⟩, ⟨r0_5, p26⟩, ⟨r0_4, p27⟩, ⟨r0_3, p28⟩, ⟨r0_2, p29⟩, ⟨r0_1, p30⟩, ⟨r0_0, p31⟩] : List (View.Piece (Elt F) S4x256x1024 .f32)), y ∈ pc.1.set :=
  View.cover_of_tiled [⟨r0_31, p0⟩, ⟨r0_30, p1⟩, ⟨r0_29, p2⟩, ⟨r0_28, p3⟩, ⟨r0_27, p4⟩, ⟨r0_26, p5⟩, ⟨r0_25, p6⟩, ⟨r0_24, p7⟩, ⟨r0_23, p8⟩, ⟨r0_22, p9⟩, ⟨r0_21, p10⟩, ⟨r0_20, p11⟩, ⟨r0_19, p12⟩, ⟨r0_18, p13⟩, ⟨r0_17, p14⟩, ⟨r0_16, p15⟩, ⟨r0_15, p16⟩, ⟨r0_14, p17⟩, ⟨r0_13, p18⟩, ⟨r0_12, p19⟩, ⟨r0_11, p20⟩, ⟨r0_10, p21⟩, ⟨r0_9, p22⟩, ⟨r0_8, p23⟩, ⟨r0_7, p24⟩, ⟨r0_6, p25⟩, ⟨r0_5, p26⟩, ⟨r0_4, p27⟩, ⟨r0_3, p28⟩, ⟨r0_2, p29⟩, ⟨r0_1, p30⟩, ⟨r0_0, p31⟩] S4x8x1024.size (by rfl) y

/-! ## The body at a grid point -/

set_option maxHeartbeats 26570900 in
/-- The body, run on a staging buffer that holds anything, ends with the buffer at `out0_0`: the 32 bands that it stores. -/
theorem sound_kernel (c : Dev nD) (E : Set ℕ) (i : grid0.Coords) (arg1 : Memref sig .tc .vmem S4x256x1024 .f32) (harg1 : arg1.IsWhole)
     (K : PUnit → sProp 𝕄) :
    iprop((∃ d, owns (c : Thread nD τ) arg1 fullShare d)
        ∗ (iprop(owns (c : Thread nD τ) arg1 fullShare (out0_0 i )) -∗ K ⟨⟩))
      ⊢ wp frame (wpE (defs₀ (F := F)) Variants.none c none) E (cc0__posenc_block_kernel i arg1 harg1) K := by
  simp only [cc0__posenc_block_kernel_eq_skeleton]; unfold cc0__posenc_block_kernel_skel
  simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%d0, %f0, -, H0⟩, Hk⟩
  sl_exec
  sl_step
  iapply Hk
  iexists _; isplitr
  swap; · iexact H0
  ipureintro
  refine (View.read_writes_eq_canon _ _ _ (cover0_0 _ _ _ _ _ _ _ _ _ _ _ _ _ _ _ _ _ _ _ _ _ _ _ _ _ _ _ _ _ _ _ _)).trans ?_
  rfl

/-- What the run of the pipeline is proved from: the arrays as launched, the output block after the body at point `t`, no
    debts, full shares. -/
def dats (_ : Fin 1) (c : Dev nD) : Dat τ (Elt F) Unit ℕ (UR sig nD τ) ℕ cfg0 c where
  A w := m ((c : Thread nD τ).loc (Pipeline.arrRef spec0 w))
  after w t := match w with
    | ⟨0, _⟩ => out0_0 (grid0.coords t)
  Φ _ := Pipeline.ΦA spec0 c
  q _ := fullShare
  owed _ := 0

/-- The arrays of `dats` are those of the launch. -/
theorem A_eq (c : Dev nD) (w : Fin cfg0.W) : (dats m 0 c).A w = m ((c : Thread nD τ).loc (Pipeline.arrRef spec0 w)) := by
  dsimp only [dats]

/-- After the body at point `t` the output's buffer holds `out0_0` of the point. -/
theorem after0_0 (c : Dev nD) (t : Fin cfg0.N) : (dats m 0 c).after 0 t = out0_0 (grid0.coords t) := by dsimp only [dats]

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

/-- The body at any point takes `bodyPre` to `bodyPost`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0]
  iintro ⟨HΦ, Ho, ⟨%d0, H0⟩⟩
  iapply (sound_kernel c Set.univ (grid0.coords t) _ _ _)
  isplitl [H0]; · iexists _; iexact H0
  iintro ⟨H0⟩
  isplitl [HΦ]; · iexact HΦ
  isplitl [Ho]; · iexact Ho
  iexact H0

/-- The launched body at point `t` is the printed one on the point's buffers. -/
theorem defs₀_row (t : Fin cfg0.N) :
    defs₀ (F := F) .tc cfg0.body (cfg0.bodyArgs t (cfg0.slots t)) = bodyAt0 t := by
  unfold defs₀; rw [Defs.onTc_tc]

/-- What the pipeline asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The program is its one call: the call finds the buffers as launched. -/
theorem hmain (𝒱₀ : Variants) : Pipeline.HMain (Ix := Unit) (Name := ℕ) (U := UR sig nD τ) (Lvl := ℕ) cfgs 0 defs₀ 𝒱₀ m (main (F := F))
    (fun c b => m ((c : Thread nD τ).loc b)) :=
  Pipeline.hmain_region cfgs 0 defs₀ 𝒱₀ m main fun c => (main_chain c).trans rfl

-- the conclusion's implicit arguments are found by unfolding plain definitions in a type
set_option backward.isDefEq.respectTransparency.types false in
set_option maxHeartbeats 800000 in
/-- Every execution ends with the output array at what the body's blocks make of it, every other array as launched, and
    every semaphore counter at zero. -/
theorem run_main : θ_run defs (onTc (τ := τ) (main (F := F))) (s₀ m ρ)
    (fun r => (Pipeline.FramePost cfgs (dats m) 0 (fun c b => m ((c : Thread nD τ).loc b))) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := fun c b => m ((c : Thread nD τ).loc b)) (hmain := hmain m Variants.none) (hA := A_eq m)
    (hΦ := fun _ _ => rfl)

/-- Every execution ends with the result at what the blocks make of it and both arguments unchanged. -/
theorem run_blocks : θ_run defs (onTc (τ := τ) (main (F := F))) ⟨m, fun _ => 0, ρ⟩ (fun r => ∀ c : Dev nD,
      r.2.mem ((c.tc : Thread nD τ).loc main_v0) = (dats m 0 c).arrAt 0 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 0,
      (h.1 c).2 main_arg0 (Pipeline.mem_restRefs_of main_arg0 (by decide) (by decide)),
      (h.1 c).2 main_arg1 (Pipeline.mem_restRefs_of main_arg1 (by decide) (by decide))⟩) (run_main m ρ)

/-- The program ends without fault, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and ((θ_run defs _ _).mono (fun _ h c => (h c).2) (run_blocks m ρ)) ((θ_run defs _ _).mono (fun _ h => h.2) (run_main m ρ))

end Cert.KernelIdeal.Run

end
-- ==== Proof.Bands.lean ====
/- The 32 bands of a block as ONE recursion: each band is the one before it, rotated by eight rows. -/
module

public import proofs.«01_k».proof.Proof.IdealRun

@[expose] public section

set_option maxRecDepth 16384

noncomputable section

namespace Cert.KernelIdeal.Block

open Cert.KernelIdeal Cert.KernelIdeal.Gen Cert.KernelIdeal.Run
open Idealize.ShloMosaic Idealize.ShloMosaic.TcCoe

variable {F : FTy → Type} [FloatOps F] [Named F]

/-- One rotation of a pair of vectors by the block's cosine and signed sine. -/
def turn (i : grid0.Coords) (ab : FVec F S8x1024 .f32 × FVec F S8x1024 .f32) : FVec F S8x1024 .f32 × FVec F S8x1024 .f32 :=
  (addf (mulf ab.1 (k0_pay114 i)) (mulf ab.2 (k0_pay115 i)), subf (mulf ab.2 (k0_pay114 i)) (mulf ab.1 (k0_pay115 i)))

/-- The first row of grid point `i`'s block, as the word that the body computes it in. -/
abbrev base (i : grid0.Coords) : BitVec 32 := Scalar.muli (BitVec.ofNat 32 (i 0).val) 256#32

/-- The pair (wave, partner) of band `k`: the first band's, rotated `k` times. -/
def rows (i : grid0.Coords) : ℕ → FVec F S8x1024 .f32 × FVec F S8x1024 .f32
  | 0 => (k0_pay10 (base i) (k0_pay110 i) (k0_pay111 i) (k0_pay112 i) (k0_pay113 i),
      k0_pay11 (base i) (k0_pay110 i) (k0_pay111 i) (k0_pay112 i) (k0_pay113 i))
  | k + 1 => turn i (rows i k)

/-- A band as it is stored: the same eight rows in each of the four batches. -/
def stored (v : FVec F S8x1024 .f32) : FVec F S4x8x1024 .f32 :=
  broadcastTo S4x8x1024 (shapeCast S1x8x1024 (shapeCast S1x8x1024 v shapeCasts_S8x1024_S1x8x1024)
    shapeCasts_S1x8x1024_S1x8x1024) broadcasts_S1x8x1024_S4x8x1024

/-- The first band with its rows of number zero cleared. -/
def firstRows (i : grid0.Coords) : FVec F S8x1024 .f32 :=
  select (cmpf .oeq (k0_pay6 (F := F) (base i)) (broadcast S8x1024 (Scalar.ofBits .f32 0x00000000#32)))
    (broadcast S8x1024 (Scalar.ofBits .f32 0x00000000#32)) (rows i 0).1

/-- The vector that band `k` stores. -/
def band (i : grid0.Coords) : ℕ → FVec F S8x1024 .f32
  | 0 => firstRows i
  | k + 1 => (rows i (k + 1)).1

/-- The values that are carried from one part of the body to the next are members of the recursion. -/
theorem carried (i : grid0.Coords) :
    (k0_pay116 (F := F) i = (rows i 1).1 ∧ k0_pay117 (F := F) i = (rows i 1).2) ∧ k0_pay118 (F := F) i = (rows i 2).1 :=
  ⟨⟨rfl, rfl⟩, rfl⟩

/-- The same of the values carried at band 6. -/
theorem carried6 (i : grid0.Coords) : k0_pay119 (F := F) i = (rows i 6).1 ∧ k0_pay120 (F := F) i = (rows i 6).2 := by
  unfold k0_pay119 k0_pay120
  rw [(carried i).1.1, (carried i).1.2, (carried i).2]
  exact ⟨rfl, rfl⟩

/-- The same of the values carried at band 10. -/
theorem carried10 (i : grid0.Coords) : k0_pay121 (F := F) i = (rows i 10).1 ∧ k0_pay122 (F := F) i = (rows i 10).2 := by
  unfold k0_pay121 k0_pay122
  rw [(carried6 i).1, (carried6 i).2]
  exact ⟨rfl, rfl⟩

/-- The same of the values carried at band 14. -/
theorem carried14 (i : grid0.Coords) : (k0_pay123 (F := F) i = (rows i 14).1 ∧ k0_pay124 (F := F) i = (rows i 14).2)
    ∧ k0_pay125 (F := F) i = mulf (rows i 14).1 (k0_pay114 i) := by
  unfold k0_pay123 k0_pay124 k0_pay125
  rw [(carried10 i).1, (carried10 i).2]
  exact ⟨⟨rfl, rfl⟩, rfl⟩

/-- The same of the values carried at band 19. -/
theorem carried19 (i : grid0.Coords) : k0_pay126 (F := F) i = (rows i 19).1 ∧
    k0_pay127 (F := F) i = mulf (rows i 18).2 (k0_pay114 i) ∧ k0_pay128 (F := F) i = mulf (rows i 18).1 (k0_pay115 i) := by
  unfold k0_pay126 k0_pay127 k0_pay128
  rw [(carried14 i).1.1, (carried14 i).1.2, (carried14 i).2]
  exact ⟨rfl, rfl, rfl⟩

/-- The same of the values carried at band 23. -/
theorem carried23 (i : grid0.Coords) : k0_pay129 (F := F) i = (rows i 23).1 ∧ k0_pay130 (F := F) i = (rows i 23).2 := by
  unfold k0_pay129 k0_pay130
  rw [(carried19 i).1, (carried19 i).2.1, (carried19 i).2.2]
  exact ⟨rfl, rfl⟩

/-- The same of the values carried at band 27. -/
theorem carried27 (i : grid0.Coords) : k0_pay131 (F := F) i = (rows i 27).1 ∧ k0_pay132 (F := F) i = (rows i 27).2 := by
  unfold k0_pay131 k0_pay132
  rw [(carried23 i).1, (carried23 i).2]
  exact ⟨rfl, rfl⟩

/-- Band `k`'s rows lie in the block. -/
theorem inb (k : Fin 32) : ∀ a, (![0, 8 * (31 - k.val), 0] : Fin 3 → ℕ) a + S4x8x1024.size a ≤ S4x256x1024.size a := by
  intro a
  fin_cases a
  · show 0 + 4 ≤ 4
    omega
  · show 8 * (31 - k.val) + 8 ≤ 256
    omega
  · show 0 + 1024 ≤ 1024
    omega

/-- The block after the body is the 32 bands of the recursion, the last one first. -/
theorem out_eq (i : grid0.Coords) : out0_0 (F := F) i
    = View.canon (List.ofFn fun k : Fin 32 =>
        ⟨Rect.unit (s := S4x256x1024) ![0, 8 * (31 - k.val), 0] S4x8x1024.size (inb k), stored (band i (31 - k.val))⟩) := by
  unfold out0_0
  rw [(carried27 i).1, (carried27 i).2, (carried23 i).1, (carried23 i).2, (carried19 i).1, (carried19 i).2.1, (carried19 i).2.2,
    (carried14 i).1.1, (carried14 i).1.2, (carried14 i).2, (carried10 i).1, (carried10 i).2, (carried6 i).1, (carried6 i).2,
    (carried i).1.1, (carried i).1.2, (carried i).2]
  rfl

end Cert.KernelIdeal.Block

end
-- ==== Proof.Consts.lean ====
/- The float constants of the kernel and of the reference, as the real numbers that their words denote, and the float of a row's
   or a column's number. -/
module

public import Idealize.ShloMosaic.PureOps.Ideal
public import Idealize.ShloMosaic.Lib.WordCmp

@[expose] public section

noncomputable section

namespace Cert.Consts

open Idealize.ShloMosaic

/-- The word of `0.0` denotes the real 0. -/
theorem ofBits_0 : Ideal.ofBits .f32 0x00000000#32 = ((0 : ℝ) : EReal) := by
  simp [Ideal.ofBits, Ideal.ieee, -EReal.coe_mul]

/-- The word of `2.0` denotes the real 2. -/
theorem ofBits_2 : Ideal.ofBits .f32 0x40000000#32 = ((2 : ℝ) : EReal) := by
  simp [Ideal.ofBits, Ideal.ieee, -EReal.coe_mul]; norm_num

/-- The word of `8.0` denotes the real 8. -/
theorem ofBits_8 : Ideal.ofBits .f32 0x41000000#32 = ((8 : ℝ) : EReal) := by
  simp [Ideal.ofBits, Ideal.ieee, -EReal.coe_mul]; norm_num

/-- The word of `32.0` denotes the real 32. -/
theorem ofBits_32 : Ideal.ofBits .f32 0x42000000#32 = ((32 : ℝ) : EReal) := by
  simp [Ideal.ofBits, Ideal.ieee, -EReal.coe_mul]; norm_num

/-- The word of `1024.0` denotes the real 1024. -/
theorem ofBits_1024 : Ideal.ofBits .f32 0x44800000#32 = ((1024 : ℝ) : EReal) := by
  simp [Ideal.ofBits, Ideal.ieee, -EReal.coe_mul]; norm_num

/-- The word of `10000.0` denotes the real 10000. -/
theorem ofBits_10000 : Ideal.ofBits .f32 0x461C4000#32 = ((10000 : ℝ) : EReal) := by
  simp [Ideal.ofBits, Ideal.ieee, -EReal.coe_mul]; norm_num

/-- The signed value of a row or column number's word, as a float, is that number. -/
theorem sitofp_ofNat (k : ℕ) (h : k < 2 ^ 31) :
    FloatOps.sitofp (F := Ideal) .f32 (BitVec.ofNat 32 k) = (((k : ℕ) : ℝ) : EReal) := by
  show (((BitVec.ofNat 32 k).toInt : ℝ) : EReal) = _
  rw [WordCmp.toInt_ofNat_of_lt (by omega)]
  simp

end Cert.Consts

end
-- ==== Proof.Wave.lean ====
/- The mathematics of the position table over the reals: its entries as the kernel reaches them, by rotations of eight rows,
   and as the reference writes them, by a power of 10000. -/
module

public import Mathlib.Analysis.SpecialFunctions.Pow.Real
public import Mathlib.Analysis.SpecialFunctions.Trigonometric.Basic

@[expose] public section

noncomputable section

namespace Cert.Wave

/-- The frequency of column `c`: columns `2h` and `2h + 1` share `exp (h · (−(1/512) · log 10000))`. -/
def freq (c : ℕ) : ℝ := Real.exp (((c / 2 : ℕ) : ℝ) * -((1 / 512) * Real.log 10000))

/-- The angle of row `p` in column `c`. -/
def angle (p c : ℕ) : ℝ := (p : ℝ) * freq c

/-- The scaled wave: 32 times the sine in even columns, 32 times the cosine in odd ones. -/
def wave (p c : ℕ) : ℝ := if c % 2 = 0 then Real.sin (angle p c) * 32 else Real.cos (angle p c) * 32

/-- The wave's partner: 32 times the other one of sine and cosine. -/
def partner (p c : ℕ) : ℝ := if c % 2 = 0 then Real.cos (angle p c) * 32 else Real.sin (angle p c) * 32

/-- The entry of the position table at row `p`, column `c`: row 0 is zero, every other row is the wave. -/
def entry (p c : ℕ) : ℝ := if p = 0 then 0 else wave p c

/-- The cosine of eight rows' angle. -/
def turnCos (c : ℕ) : ℝ := Real.cos (8 * freq c)

/-- The sine of eight rows' angle, negated in odd columns. -/
def turnSin (c : ℕ) : ℝ := if c % 2 = 0 then Real.sin (8 * freq c) else 0 - Real.sin (8 * freq c)

/-- Eight rows further the angle grows by eight frequencies. -/
theorem angle_add_eight (p c : ℕ) : angle (p + 8) c = angle p c + 8 * freq c := by
  unfold angle; push_cast; ring

/-- One rotation takes the wave eight rows further. -/
theorem wave_add_eight (p c : ℕ) : wave p c * turnCos c + partner p c * turnSin c = wave (p + 8) c := by
  unfold wave partner turnCos turnSin
  rw [angle_add_eight]
  split_ifs
  · rw [Real.sin_add]; ring
  · rw [Real.cos_add]; ring

/-- One rotation takes the partner eight rows further. -/
theorem partner_add_eight (p c : ℕ) : partner p c * turnCos c - wave p c * turnSin c = partner (p + 8) c := by
  unfold wave partner turnCos turnSin
  rw [angle_add_eight]
  split_ifs
  · rw [Real.cos_add]; ring
  · rw [Real.sin_add]; ring

/-- The reference's quotient is the angle: dividing the row by `10000 ^ (2 ⌊c/2⌋ / 1024)` multiplies it by the frequency. -/
theorem div_pow_eq_angle (p c : ℕ) :
    (p : ℝ) * (1 / Real.rpow 10000 (2 * ((c / 2 : ℕ) : ℝ) * (1 / 1024))) = angle p c := by
  unfold angle freq
  rw [Real.rpow_eq_pow, Real.rpow_def_of_pos (by norm_num), one_div, ← Real.exp_neg]
  congr 2; ring

/-- The reference's power is not zero. -/
theorem pow_ne_zero (x : ℝ) : Real.rpow 10000 x ≠ 0 := by
  rw [Real.rpow_eq_pow]; exact (Real.rpow_pos_of_pos (by norm_num) x).ne'

end Cert.Wave

end
-- ==== Proof.Start.lean ====
/- What one block of the kernel starts from, entry by entry: the frequencies, the parity of a column, the first eight rows'
   wave and partner, and the rotation by eight rows. -/
module

public import proofs.«01_k».proof.Proof.Bands
public import proofs.«01_k».proof.Proof.Consts
public import proofs.«01_k».proof.Proof.Wave
public import Idealize.ShloMosaic.Lib.Pointwise
public import Idealize.ShloMosaic.Lib.WordCmp

@[expose] public section

set_option maxRecDepth 16384

noncomputable section

namespace Cert.KernelIdeal.Block

open Cert.KernelIdeal Cert.KernelIdeal.Gen Cert.KernelIdeal.Run
open Idealize.ShloMosaic Idealize.ShloMosaic.TcCoe

/-- The named constant is the real `−(1/512) · log 10000`. -/
theorem freq_const :
    Named.named (F := Ideal) κ "freq" (φ := .f32) 0xBC935D8E#32 = ((-((1 / 512) * (Real.log 10000)) : ℝ) : EReal) :=
  IdealRules.named_const.ideal_named_scalar _ _ _ _ rfl

/-- The floor division of a column number's word by two, spelt with truncating division and a correction, is the word of
    the quotient. -/
theorem half_word : ∀ c : Fin 1024,
    Scalar.select
      (IntOp.andi
        (IntOp.cmpi .ne
          (IntOp.subi (BitVec.setWidth 32 (IntOp.cmpi .sgt (BitVec.ofNat 32 c.val) 0#32))
            (BitVec.setWidth 32 (IntOp.cmpi .slt (BitVec.ofNat 32 c.val) 0#32)))
          (Scalar.subi (Scalar.extui (Scalar.cmpi .sgt 2#32 0#32)) (Scalar.extui (Scalar.cmpi .slt 2#32 0#32))))
        (IntOp.cmpi .ne (IntOp.remsi .vector (BitVec.ofNat 32 c.val) 2#32) 0#32))
      (IntOp.subi (IntOp.divsi .vector (BitVec.ofNat 32 c.val) 2#32) 1#32)
      (IntOp.divsi .vector (BitVec.ofNat 32 c.val) 2#32)
    = BitVec.ofNat 32 (c.val / 2) := by decide +kernel

/-- The frequencies: entry `(r, c)` is the frequency of column `c`. -/
theorem freq_apply (i : grid0.Coords) (r : Fin 8) (c : Fin 1024) :
    k0_pay110 (F := Ideal) i (ix2 r c) = ((Wave.freq c.val : ℝ) : EReal) := by
  pointwise [k0_pay110, k0_pay1]
  rw [half_word c, Consts.sitofp_ofNat _ (by omega), freq_const, ← EReal.coe_mul, Ideal.exp_coe]
  rfl

/-- The remainder of a column number's word by two, made non-negative and compared with zero, is the column's parity. -/
theorem even_word : ∀ c : Fin 1024,
    IntOp.cmpi .eq
      (Scalar.select
        (IntOp.andi
          (IntOp.xori
            (IntOp.cmpi .slt
              (IntOp.remsi .vector (BitVec.ofNat 32 c.val) (Scalar.select (Scalar.cmpi .eq 2#32 0#32) 1#32 2#32)) 0#32)
            (Scalar.cmpi .slt (Scalar.select (Scalar.cmpi .eq 2#32 0#32) 1#32 2#32) 0#32))
          (IntOp.cmpi .ne
            (IntOp.remsi .vector (BitVec.ofNat 32 c.val) (Scalar.select (Scalar.cmpi .eq 2#32 0#32) 1#32 2#32)) 0#32))
        (IntOp.addi
          (IntOp.remsi .vector (BitVec.ofNat 32 c.val) (Scalar.select (Scalar.cmpi .eq 2#32 0#32) 1#32 2#32))
          (Scalar.select (Scalar.cmpi .eq 2#32 0#32) 1#32 2#32))
        (IntOp.remsi .vector (BitVec.ofNat 32 c.val) (Scalar.select (Scalar.cmpi .eq 2#32 0#32) 1#32 2#32)))
      0#32
    = BitVec.ofBool (decide (c.val % 2 = 0)) := by decide +kernel

/-- The mask of the even columns. -/
theorem even_apply (i : grid0.Coords) (r : Fin 8) (c : Fin 1024) :
    k0_pay5 (k0_pay111 i) (k0_pay112 i) (k0_pay113 i) (ix2 r c) = BitVec.ofBool (decide (c.val % 2 = 0)) := by
  pointwise [k0_pay111, k0_pay112, k0_pay113, k0_pay5, k0_pay2, k0_pay3, k0_pay4]
  exact even_word c

/-- The words of the first eight rows' numbers. -/
theorem row_word : ∀ (t : Fin 32) (r : Fin 8),
    IntOp.addi (BitVec.ofNat 32 r.val) (Scalar.muli (BitVec.ofNat 32 t.val) 256#32) = BitVec.ofNat 32 (256 * t.val + r.val) := by
  decide +kernel

/-- The first eight rows' numbers, as floats. -/
theorem row_apply (i : grid0.Coords) (r : Fin 8) (c : Fin 1024) :
    k0_pay6 (F := Ideal) (base i) (ix2 r c) = (((256 * (i 0).val + r.val : ℕ) : ℝ) : EReal) := by
  have ht : (i 0).val < 32 := (i 0).isLt
  pointwise [k0_pay6]
  rw [row_word ⟨(i 0).val, ht⟩ r, Consts.sitofp_ofNat _ (by dsimp only; omega)]

/-- The first eight rows' angles. -/
theorem angle_apply (i : grid0.Coords) (r : Fin 8) (c : Fin 1024) :
    k0_pay7 (F := Ideal) (base i) (k0_pay110 i) (ix2 r c) = ((Wave.angle (256 * (i 0).val + r.val) c.val : ℝ) : EReal) := by
  pointwise [k0_pay7]
  rw [row_apply, freq_apply, ← EReal.coe_mul]
  rfl

/-- The first eight rows' wave. -/
theorem wave_apply (i : grid0.Coords) (r : Fin 8) (c : Fin 1024) :
    k0_pay10 (F := Ideal) (base i) (k0_pay110 i) (k0_pay111 i) (k0_pay112 i) (k0_pay113 i) (ix2 r c)
      = ((Wave.wave (256 * (i 0).val + r.val) c.val : ℝ) : EReal) := by
  pointwise [k0_pay10, k0_pay8, k0_pay9]
  rw [even_apply, angle_apply, Consts.ofBits_32, Ideal.sin_coe, Ideal.cos_coe]
  pointwise
  unfold Wave.wave
  split_ifs <;> rw [← EReal.coe_mul]

/-- The first eight rows' partner. -/
theorem partner_apply (i : grid0.Coords) (r : Fin 8) (c : Fin 1024) :
    k0_pay11 (F := Ideal) (base i) (k0_pay110 i) (k0_pay111 i) (k0_pay112 i) (k0_pay113 i) (ix2 r c)
      = ((Wave.partner (256 * (i 0).val + r.val) c.val : ℝ) : EReal) := by
  pointwise [k0_pay11, k0_pay8, k0_pay9]
  rw [even_apply, angle_apply, Consts.ofBits_32, Ideal.sin_coe, Ideal.cos_coe]
  pointwise
  unfold Wave.partner
  split_ifs <;> rw [← EReal.coe_mul]

/-- The rotation's cosine. -/
theorem turnCos_apply (i : grid0.Coords) (r : Fin 8) (c : Fin 1024) :
    k0_pay114 (F := Ideal) i (ix2 r c) = ((Wave.turnCos c.val : ℝ) : EReal) := by
  pointwise [k0_pay114, k0_pay13, k0_pay12]
  rw [freq_apply, Consts.ofBits_8, ← EReal.coe_mul, Ideal.cos_coe]
  rfl

/-- The rotation's signed sine. -/
theorem turnSin_apply (i : grid0.Coords) (r : Fin 8) (c : Fin 1024) :
    k0_pay115 (F := Ideal) i (ix2 r c) = ((Wave.turnSin c.val : ℝ) : EReal) := by
  unfold k0_pay115
  pointwise [k0_pay14, k0_pay12]
  rw [even_apply, freq_apply, Consts.ofBits_8, ← EReal.coe_mul, Ideal.sin_coe]
  pointwise
  unfold Wave.turnSin
  split_ifs <;> simp

end Cert.KernelIdeal.Block

end
-- ==== Proof.BlockValue.lean ====
/- What one grid point of the kernel leaves in its block: 256 rows of the position table, in each of the four batches. -/
module

public import proofs.«01_k».proof.Proof.Start
public import Idealize.ShloMosaic.Lib.Pipeline.ValueKit.Tiles

@[expose] public section

set_option maxRecDepth 16384

noncomputable section

namespace Cert.KernelIdeal.Block

open Cert.KernelIdeal Cert.KernelIdeal.Gen Cert.KernelIdeal.Run
open Idealize.ShloMosaic Idealize.ShloMosaic.TcCoe

/-- Band `k` of the recursion holds the wave and the partner of rows `256 t + 8 k + r`, by the addition formulas of sine and
    cosine. -/
theorem rows_apply (i : grid0.Coords) (k : ℕ) (r : Fin 8) (c : Fin 1024) :
    (rows (F := Ideal) i k).1 (ix2 r c) = ((Wave.wave (256 * (i 0).val + 8 * k + r.val) c.val : ℝ) : EReal)
    ∧ (rows (F := Ideal) i k).2 (ix2 r c) = ((Wave.partner (256 * (i 0).val + 8 * k + r.val) c.val : ℝ) : EReal) := by
  induction k with
  | zero => exact ⟨wave_apply i r c, partner_apply i r c⟩
  | succ k ih =>
    have e : 256 * (i 0).val + 8 * (k + 1) + r.val = 256 * (i 0).val + 8 * k + r.val + 8 := by omega
    rw [e]
    constructor
    · pointwise [rows, turn]
      rw [ih.1, ih.2, turnCos_apply, turnSin_apply, ← Wave.wave_add_eight]
      push_cast; rfl
    · pointwise [rows, turn]
      rw [ih.1, ih.2, turnCos_apply, turnSin_apply, ← Wave.partner_add_eight]
      push_cast; rfl

/-- What band `k` stores: the table's rows `256 t + 8 k + r`; only the first band can hold row 0. -/
theorem band_apply (i : grid0.Coords) (k : ℕ) (r : Fin 8) (c : Fin 1024) :
    band (F := Ideal) i k (ix2 r c) = ((Wave.entry (256 * (i 0).val + 8 * k + r.val) c.val : ℝ) : EReal) := by
  cases k with
  | zero =>
    pointwise [band, firstRows]
    rw [row_apply, (rows_apply i 0 r c).1]
    unfold Wave.entry
    pointwise
    by_cases h : 256 * (i 0).val + r.val = 0
    · simp [h]
    · have h' : ((256 * (i 0).val + r.val : ℕ) : ℝ) ≠ 0 := by exact_mod_cast h
      rw [if_neg (by exact_mod_cast h'), if_neg (by omega)]
  | succ k =>
    show (rows (F := Ideal) i (k + 1)).1 (ix2 r c) = _
    rw [(rows_apply i (k + 1) r c).1]
    unfold Wave.entry
    rw [if_neg (by omega)]

/-- A stored band repeats its rows in each batch. -/
theorem stored_apply (v : FVec Ideal S8x1024 .f32) (n : Fin 4) (r : Fin 8) (c : Fin 1024) :
    stored v (ix3 n r c) = v (ix2 r c) := by
  pointwise [stored]

/-- Where block entry `y` lies in band `31 - k`, at the band's entry `x`, the band stores the table's entry. -/
theorem tile_apply (i : grid0.Coords) (y : S4x256x1024.Idx) (k : Fin 32) :
    View.TileAt (Val := Elt Ideal) (e := .f32) y ![0, 8 * (31 - k.val), 0] S4x8x1024.size (stored (band (F := Ideal) i (31 - k.val)))
      ((Wave.entry (256 * (i 0).val + (y 1).val) (y 2).val : ℝ) : EReal) := by
  intro x hx
  have hx1 : (y 1).val = 8 * (31 - k.val) + (x 1).val := hx 1
  have hx2 : (y 2).val = 0 + (x 2).val := hx 2
  have e : x = ix3 (x 0) (x 1) (x 2) := by
    funext a; fin_cases a <;> rfl
  rw [hx1, hx2, e]
  refine (stored_apply _ (x 0) (x 1) (x 2)).trans ((band_apply i _ (x 1) (x 2)).trans ?_)
  rw [Nat.zero_add, ← Nat.add_assoc]
  rfl

/-- The block of grid point `i`: entry `(n, q, c)` is the table's entry at row `256 t + q`, column `c`. -/
theorem block_apply (i : grid0.Coords) (y : S4x256x1024.Idx) :
    out0_0 (F := Ideal) i y = ((Wave.entry (256 * (i 0).val + (y 1).val) (y 2).val : ℝ) : EReal) := by
  have h0 : (y 0).val < 4 := (y 0).isLt
  have h1 : (y 1).val < 256 := (y 1).isLt
  have h2 : (y 2).val < 1024 := (y 2).isLt
  rw [out_eq]
  refine View.canon_ofFn_unit_eq_of_forall (S := S4x256x1024) (Val := Elt Ideal) (e := .f32)
    (fun k : Fin 32 => ![0, 8 * (31 - k.val), 0]) S4x8x1024.size inb
    (fun k => stored (band (F := Ideal) i (31 - k.val))) y _ ⟨⟨31 - (y 1).val / 8, by omega⟩, fun a => ?_⟩ (tile_apply i y)
  match a with
  | ⟨0, _⟩ =>
    show 0 ≤ (y 0).val ∧ (y 0).val < 0 + 4
    omega
  | ⟨1, _⟩ =>
    show 8 * (31 - (31 - (y 1).val / 8)) ≤ (y 1).val ∧ (y 1).val < 8 * (31 - (31 - (y 1).val / 8)) + 8
    omega
  | ⟨2, _⟩ =>
    show 0 ≤ (y 2).val ∧ (y 2).val < 0 + 1024
    omega

end Cert.KernelIdeal.Block

end
-- ==== Proof.ArrayValue.lean ====
/- What the kernel's result array holds after the run: the position table in each of the four batches. -/
module

public import proofs.«01_k».proof.Proof.BlockValue

@[expose] public section

set_option maxRecDepth 16384

noncomputable section

namespace Cert.KernelIdeal.Array

open Cert.KernelIdeal Cert.KernelIdeal.Gen Cert.KernelIdeal.Run
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The position table over the batches: entry `(n, p, c)` is the table's entry at row `p`, column `c`. -/
def table : FVec Ideal S4x8192x1024 .f32 := fun y => ((Wave.entry (y 1).val (y 2).val : ℝ) : EReal)

/-- Grid point `t` is number `t`, and its block is the `t`-th along the rows. -/
theorem place : ∀ t : Fin cfg0.N, (grid0.coords t 0).val = t.val
    ∧ (win0_0.index t 0 * win0_0.size 0 = 0 ∧ win0_0.xsize (grid0.coords t) 0 = 4)
    ∧ (win0_0.index t 1 * win0_0.size 1 = 256 * t.val ∧ win0_0.xsize (grid0.coords t) 1 = 256)
    ∧ (win0_0.index t 2 * win0_0.size 2 = 0 ∧ win0_0.xsize (grid0.coords t) 2 = 1024) :=
  (by decide +kernel : ∀ t : Fin grid0.N, (grid0.coords t 0).val = t.val
    ∧ (win0_0.index t 0 * win0_0.size 0 = 0 ∧ win0_0.xsize (grid0.coords t) 0 = 4)
    ∧ (win0_0.index t 1 * win0_0.size 1 = 256 * t.val ∧ win0_0.xsize (grid0.coords t) 1 = 256)
    ∧ (win0_0.index t 2 * win0_0.size 2 = 0 ∧ win0_0.xsize (grid0.coords t) 2 = 1024))

/-- What grid point `t` writes back is the table's block `t`. -/
theorem flushed_eq (c : Dev nD) (t : Fin cfg0.N) :
    (dats m 0 c).flushed 0 t = (win0_0.blk t).view.read (Elt Ideal) table := by
  show (cfg0.win 0).cut (grid0.coords t) ((dats m 0 c).after 0 t) = _
  rw [after0_0]
  obtain ⟨ht, -, ⟨h1, -⟩, ⟨h2, -⟩⟩ := place t
  funext x
  refine (Block.block_apply (grid0.coords t) _).trans ?_
  show ((Wave.entry (256 * (grid0.coords t 0).val + (x 1).val) (x 2).val : ℝ) : EReal)
    = ((Wave.entry (win0_0.index t 1 * win0_0.size 1 + 1 * (x 1).val) (win0_0.index t 2 * win0_0.size 2 + 1 * (x 2).val) : ℝ) : EReal)
  rw [ht, h1, h2, Nat.one_mul, Nat.one_mul, Nat.zero_add]

/-- An entry of the array is in point `t`'s block exactly when its row is among the 256 rows from `256 t` on. -/
theorem mem_blk (t : Fin cfg0.N) (i : S4x8192x1024.Idx) :
    i ∈ ((cfg0.win 0).blk t).view.set ↔ 256 * t.val ≤ (i 1).val ∧ (i 1).val < 256 * t.val + 256 := by
  show i ∈ ((View.whole main_v0).slice (win0_0.rect t)).set ↔ _
  rw [View.set_slice_whole, Rect.mem_set_unit]
  have i0 : (i 0).val < 4 := (i 0).isLt
  have i2 : (i 2).val < 1024 := (i 2).isLt
  obtain ⟨-, ⟨h0, x0⟩, ⟨h1, x1⟩, ⟨h2, x2⟩⟩ := place t
  refine ⟨fun h => ?_, fun h a => ?_⟩
  · have : win0_0.index t 1 * win0_0.size 1 ≤ (i 1).val
        ∧ (i 1).val < win0_0.index t 1 * win0_0.size 1 + win0_0.xsize (grid0.coords t) 1 := h 1
    rw [h1, x1] at this; exact this
  · match a with
    | ⟨0, _⟩ =>
      show win0_0.index t 0 * win0_0.size 0 ≤ (i 0).val
        ∧ (i 0).val < win0_0.index t 0 * win0_0.size 0 + win0_0.xsize (grid0.coords t) 0
      rw [h0, x0]; omega
    | ⟨1, _⟩ =>
      show win0_0.index t 1 * win0_0.size 1 ≤ (i 1).val
        ∧ (i 1).val < win0_0.index t 1 * win0_0.size 1 + win0_0.xsize (grid0.coords t) 1
      rw [h1, x1]; exact h
    | ⟨2, _⟩ =>
      show win0_0.index t 2 * win0_0.size 2 ≤ (i 2).val
        ∧ (i 2).val < win0_0.index t 2 * win0_0.size 2 + win0_0.xsize (grid0.coords t) 2
      rw [h2, x2]; omega

/-- The blocks cover the array. -/
theorem cover (i : S4x8192x1024.Idx) :
    ∃ t : Fin cfg0.N, (cfg0.win 0).flush t = true ∧ i ∈ ((cfg0.win 0).blk t).view.set := by
  have h1 : (i 1).val < 8192 := (i 1).isLt
  have hN : cfg0.N = 32 := N_0
  have ht : (i 1).val / 256 < cfg0.N := by omega
  refine ⟨⟨(i 1).val / 256, ht⟩, flush0_0 _, ?_⟩
  rw [mem_blk]
  dsimp only
  omega

/-- So the result array ends holding the table. -/
theorem final (c : Dev nD) : (dats m 0 c).arrAt 0 cfg0.N = table :=
  (dats m 0 c).arrAt_eq_of_cover 0 table (fun t _ => flushed_eq m c t) cover

/-- Every execution of the idealized kernel ends with the table in its result and both arguments unchanged. -/
theorem run : θ_run defs (onTc (τ := τ) (main (F := Ideal))) ⟨m, fun _ => 0, ρ⟩ fun r => ∀ c : Dev nD,
      r.2.mem ((c.tc : Thread nD τ).loc main_v0) = table
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run_blocks m ρ)

end Cert.KernelIdeal.Array

end
-- ==== Proof.RefAngle.lean ====
/- The reference's angles, entry by entry: the row's number divided by a power of 10000. -/
module

public import proofs.«01_k».proof.Proof.Gen.ReferenceIdeal.Run
public import proofs.«01_k».proof.Proof.Consts
public import proofs.«01_k».proof.Proof.Wave
public import Idealize.ShloMosaic.Lib.Pointwise
public import Idealize.ShloMosaic.Lib.WordCmp

@[expose] public section

set_option maxRecDepth 16384

noncomputable section

namespace Cert.ReferenceIdeal.RefValue

open Cert.ReferenceIdeal Cert.ReferenceIdeal.Gen Idealize.ShloMosaic Idealize.ShloMosaic.TcCoe

/-- The words of the column numbers halved, rounding down. -/
def halfWords : IVec S1024 32 :=
  select
    (andi (cmpi .ne (signi (iotaInDim S1024 32 0)) (broadcastInDim S1024 ![] bcast_S_S1024 (signi (id (constantI S_ 32 2#32)))))
      (cmpi .ne (Host.remsi (iotaInDim S1024 32 0) (broadcastInDim S1024 ![] bcast_S_S1024 (id (constantI S_ 32 2#32))))
        (broadcastInDim S1024 ![] bcast_S_S1024 (constantI S_ 32 0#32))))
    (subi (Host.divsi (iotaInDim S1024 32 0) (broadcastInDim S1024 ![] bcast_S_S1024 (id (constantI S_ 32 2#32))))
      (broadcastInDim S1024 ![] bcast_S_S1024 (constantI S_ 32 1#32)))
    (Host.divsi (iotaInDim S1024 32 0) (broadcastInDim S1024 ![] bcast_S_S1024 (id (constantI S_ 32 2#32))))

/-- The divisors: 10000 to the power `2 ⌊c/2⌋ / 1024`. -/
def powers : FVec Ideal S1024 .f32 :=
  Host.powf (broadcastInDim S1024 ![] bcast_S_S1024 (constant S_ .f32 0x461C4000#32))
    (Host.divf (mulf (broadcastInDim S1024 ![] bcast_S_S1024 (constant S_ .f32 0x40000000#32)) (sitofp .f32 halfWords))
      (broadcastInDim S1024 ![] bcast_S_S1024 (constant S_ .f32 0x44800000#32)))

/-- The array of angles. -/
def angles : FVec Ideal S8192x1024 .f32 :=
  Host.divf
    (broadcastInDim S8192x1024 ![0, 1] bcast_S8192x1_S8192x1024_0_1
      (broadcastInDim S8192x1 ![0] bcast_S8192_S8192x1_0 (sitofp .f32 (iotaInDim S8192 32 0))))
    (broadcastInDim S8192x1024 ![0, 1] bcast_S1x1024_S8192x1024_0_1
      (broadcastInDim S1x1024 ![1] bcast_S1024_S1x1024_1 powers))

/-- The floor division of a column number's word by two is the word of the quotient. -/
theorem half_word : ∀ c : Fin 1024,
    Scalar.select
      (IntOp.andi
        (IntOp.cmpi .ne
          (if BitVec.ofNat 32 c.val = 0 then (0 : BitVec 32) else if (BitVec.ofNat 32 c.val).msb = true then -1 else 1)
          (if 2#32 = 0 then (0 : BitVec 32) else if (2#32).msb = true then -1 else 1))
        (IntOp.cmpi .ne (IntOp.remsi .host (BitVec.ofNat 32 c.val) 2#32) 0#32))
      (IntOp.subi (IntOp.divsi .host (BitVec.ofNat 32 c.val) 2#32) 1#32)
      (IntOp.divsi .host (BitVec.ofNat 32 c.val) 2#32)
    = BitVec.ofNat 32 (c.val / 2) := by decide +kernel

/-- Entry `c` of the halved column numbers. -/
theorem halfWords_apply (c : Fin 1024) : halfWords (ix1 c) = BitVec.ofNat 32 (c.val / 2) := by
  pointwise [halfWords]
  exact half_word c

/-- Entry `c` of the divisors is the real power of 10000. -/
theorem powers_apply (c : Fin 1024) :
    powers (ix1 c) = ((Real.rpow 10000 (2 * ((c.val / 2 : ℕ) : ℝ) * (1 / 1024)) : ℝ) : EReal) := by
  pointwise [powers]
  rw [halfWords_apply, Consts.sitofp_ofNat _ (by omega), Consts.ofBits_10000, Consts.ofBits_2, Consts.ofBits_1024,
    Ideal.div_coe (by norm_num), ← EReal.coe_mul, ← EReal.coe_mul, Ideal.pow_coe_coe]

/-- The angle of row `p` in column `c`. -/
theorem angles_apply (p : Fin 8192) (c : Fin 1024) : angles (ix2 p c) = ((Wave.angle p.val c.val : ℝ) : EReal) := by
  pointwise [angles]
  rw [powers_apply, Consts.sitofp_ofNat _ (by omega), Ideal.div_coe (Wave.pow_ne_zero _), ← EReal.coe_mul,
    Wave.div_pow_eq_angle]

end Cert.ReferenceIdeal.RefValue
-- ==== Proof.RefValue.lean ====
/- What the reference computes: the position table. -/
module

public import proofs.«01_k».proof.Proof.RefAngle

@[expose] public section

set_option maxRecDepth 16384

noncomputable section

namespace Cert.ReferenceIdeal.RefValue

open Cert.ReferenceIdeal Cert.ReferenceIdeal.Gen Idealize.ShloMosaic Idealize.ShloMosaic.TcCoe

/-- Sines in the even columns, cosines in the odd ones, of every row's angles. -/
def waves : FVec Ideal S8192x1024 .f32 :=
  shapeCast _
    (concatenate S8192x512x2 2
      [⟨S8192x512x1, broadcastInDim S8192x512x1 ![0, 1] bcast_S8192x512_S8192x512x1_0_1
          (Host.sin (Host.slice S8192x512 ![0, 0] ![1, 2] angles slicesBy_S8192x1024_S8192x512_0s1_0s2))⟩,
        ⟨S8192x512x1, broadcastInDim S8192x512x1 ![0, 1] bcast_S8192x512_S8192x512x1_0_1
          (Host.cos (Host.slice S8192x512 ![0, 1] ![1, 2] angles slicesBy_S8192x1024_S8192x512_0s1_1s2))⟩]
      concatenates_S8192x512x1_S8192x512x1_S8192x512x2_d2)
    shapeCasts_S8192x512x2_S8192x1024

/-- The lookup table: the waves with row 0 replaced by zeros. -/
def lookup : FVec Ideal S8192x1024 .f32 :=
  concatenate S8192x1024 0
    [⟨S1x1024, broadcastInDim S1x1024 ![] bcast_S_S1x1024 (constant S_ .f32 0x00000000#32)⟩,
      ⟨S8191x1024, extractStridedSlice S8191x1024 ![1, 0] waves slices_S8192x1024_S8191x1024_1_0⟩]
    concatenates_S1x1024_S8191x1024_S8192x1024_d0

/-- The positions, the same in every batch. -/
def positions : IVec S4x8192 32 :=
  shapeCast _
    (broadcastInDim S4x1x1x8192 ![0, 1, 2, 3] bcast_S1x1x1x8192_S4x1x1x8192_0_1_2_3
      (shapeCast _ (broadcastInDim S1x8192 ![1] bcast_S8192_S1x8192_1 (iotaInDim S8192 32 0)) shapeCasts_S1x8192_S1x1x1x8192))
    shapeCasts_S4x1x1x8192_S4x8192

/-- The row numbers to look up: the positions, a negative one counted from the end. -/
def rowNumbers : IVec S4x8192x1 32 :=
  broadcastInDim S4x8192x1 ![0, 1] bcast_S4x8192_S4x8192x1_0_1
    (select (cmpi .slt positions (broadcastInDim S4x8192 ![] bcast_S_S4x8192 (constantI S_ 32 0#32)))
      (addi positions (broadcastInDim S4x8192 ![] bcast_S_S4x8192 (constantI S_ 32 8192#32))) positions)

/-- Whether a row number lies in the table. -/
def inTable : IVec S4x8192 1 :=
  Host.reduce IntOp.andi
    (andi (cmpi .sge rowNumbers (broadcastInDim S4x8192x1 ![] bcast_S_S4x8192x1 (constantI S_ 32 0#32)))
      (cmpi .sle rowNumbers
        (broadcastInDim S4x8192x1 ![0, 1, 2] bcast_S1x1x1_S4x8192x1_0_1_2
          (broadcastInDim S1x1x1 ![2] bcast_S1_S1x1x1_2 (constantI S1 32 8191#32)))))
    (constantI S_ 1 1#1) reducesTo_S4x8192x1_S4x8192_d2 h_S_

/-- The reference's result is the rows looked up, where they lie in the table, times 32. -/
theorem result_eq (m : (ℓ : Loc nD τ sig) → Buf (Elt Ideal) ℓ) (c : Dev nD) :
    Value.res_main_v33 (F := Ideal) m c
      = mulf
          (select (broadcastInDim S4x8192x1024 ![0, 1] bcast_S4x8192_S4x8192x1024_0_1 inTable)
            (Host.gather gather_S8192x1024_S4x8192x1_S4x8192x1024_2_0_n_n_0_2_11024 lookup rowNumbers)
            (broadcastInDim S4x8192x1024 ![] bcast_S_S4x8192x1024 (constant S_ .f32 0x7FC00000#32)))
          (broadcastInDim S4x8192x1024 ![] bcast_S_S4x8192x1024 (constant S_ .f32 0x42000000#32)) := rfl

/-- Columns `2h` and `2h + 1` share their angle. -/
theorem angle_pair (p c d : ℕ) (h : c / 2 = d / 2) : Wave.angle p c = Wave.angle p d := by
  unfold Wave.angle Wave.freq
  rw [h]

/-- Entry `(p, c)` of the waves: the sine of the angle in an even column, its cosine in an odd one. -/
theorem waves_apply (p : Fin 8192) (c : Fin 1024) :
    waves (ix2 p c)
      = (((if c.val % 2 = 0 then Real.sin (Wave.angle p.val c.val) else Real.cos (Wave.angle p.val c.val)) : ℝ) : EReal) := by
  pointwise [waves]
  by_cases h : c.val % 2 = 0
  · rw [dif_pos (by omega), if_pos h, angles_apply, Ideal.sin_coe, angle_pair p.val _ c.val (by dsimp only; omega)]
  · rw [dif_neg (by omega), if_neg h, angles_apply, Ideal.cos_coe, angle_pair p.val _ c.val (by dsimp only; omega)]

/-- Entry `(p, c)` of the lookup table: zero in row 0, the wave in every other row. -/
theorem lookup_apply (p : Fin 8192) (c : Fin 1024) :
    lookup (ix2 p c) = if p.val = 0 then 0 else waves (ix2 p c) := by
  pointwise [lookup]
  by_cases h : p.val = 0
  · rw [dif_pos (by omega), if_pos h]
  · rw [dif_neg (by omega), if_neg h]
    exact congrArg (fun q => waves (ix2 q c)) (Fin.ext (by dsimp only; omega))

/-- Position `p` of every batch is the word of `p`. -/
theorem positions_apply (n : Fin 4) (p : Fin 8192) : positions (ix2 n p) = BitVec.ofNat 32 p.val := by
  pointwise [positions]

/-- No position is negative, so none is counted from the end. -/
theorem wrap_word : ∀ p : Fin 8192,
    Scalar.select (IntOp.cmpi .slt (BitVec.ofNat 32 p.val) 0#32) (IntOp.addi (BitVec.ofNat 32 p.val) 8192#32)
      (BitVec.ofNat 32 p.val) = BitVec.ofNat 32 p.val := by decide +kernel

/-- The row number looked up at position `p` is the word of `p`. -/
theorem rowNumbers_apply (n : Fin 4) (p : Fin 8192) (z : Fin 1) : rowNumbers (ix3 n p z) = BitVec.ofNat 32 p.val := by
  pointwise [rowNumbers]
  rw [positions_apply]
  exact wrap_word p

/-- Every position's row lies in the table. -/
theorem bound_word : ∀ p : Fin 8192,
    IntOp.andi
      (IntOp.andi (IntOp.cmpi .sge (BitVec.ofNat 32 p.val) 0#32) (IntOp.cmpi .sle (BitVec.ofNat 32 p.val) 8191#32)) 1#1
      = 1#1 := by decide +kernel

/-- The mask is set at every position. -/
theorem inTable_apply (n : Fin 4) (p : Fin 8192) : inTable (ix2 n p) = 1#1 := by
  pointwise [inTable]
  rw [Finset.univ_unique, Finset.fold_singleton, rowNumbers_apply]
  exact bound_word p

/-- The lookup's dimension numbers: whole rows of the table, one row number per position. -/
abbrev rowLookup : GatherDims S8192x1024 S4x8192x1 S4x8192x1024 := gather_S8192x1024_S4x8192x1_S4x8192x1024_2_0_n_n_0_2_11024

/-- The row a word names: its signed value, clamped into the table. -/
def clampRow (w : BitVec 32) : Fin 8192 := ⟨min w.toInt.toNat 8191, by omega⟩

/-- On the row axis the lookup at `(n, p, c)` reads the row number at `(n, p)`, clamped into the table. -/
theorem lookup_row (idx : IVec S4x8192x1 32) (n : Fin 4) (p : Fin 8192) (c : Fin 1024) :
    rowLookup.start (ix3 n p c) idx 0 + rowLookup.batchCoord (ix3 n p c) 0 + rowLookup.offCoord (ix3 n p c) 0
      = (clampRow (idx (ix3 n p (0 : Fin 1)))).val := by
  rw [GatherDims.batchCoord_eq_zero _ _ _ List.not_mem_nil,
    GatherDims.offCoord_eq_zero _ _ _ (fun h => ((GatherDims.mem_sKept _ _).mp h).1 (List.mem_singleton.mpr rfl)),
    Nat.add_zero]
  unfold GatherDims.start
  rw [dif_pos (show (0 : Fin S8192x1024.rank) ∈ rowLookup.startIndexMap from List.mem_singleton.mpr rfl)]
  refine congrArg (fun i => (clampRow (idx i)).val) (funext fun b => Fin.ext ?_)
  match b with
  | ⟨0, _⟩ => rfl
  | ⟨1, _⟩ => rfl
  | ⟨2, _⟩ => rfl

/-- On the column axis the lookup at `(n, p, c)` reads column `c`. -/
theorem lookup_column (idx : IVec S4x8192x1 32) (n : Fin 4) (p : Fin 8192) (c : Fin 1024) :
    rowLookup.start (ix3 n p c) idx 1 + rowLookup.batchCoord (ix3 n p c) 1 + rowLookup.offCoord (ix3 n p c) 1 = c.val := by
  have h1 : (1 : Fin S8192x1024.rank) ∉ rowLookup.startIndexMap := fun h => absurd (List.mem_singleton.mp h) (by decide)
  have h2 : (1 : Fin S8192x1024.rank) ∈ rowLookup.sKept :=
    (GatherDims.mem_sKept _ _).mpr ⟨fun h => absurd (List.mem_singleton.mp h) (by decide), List.not_mem_nil⟩
  rw [GatherDims.batchCoord_eq_zero _ _ _ List.not_mem_nil, Nat.add_zero]
  unfold GatherDims.start GatherDims.offCoord
  rw [dif_neg h1, dif_pos h2, Nat.zero_add]
  rfl

/-- The lookup reads, at `(n, p, c)`, column `c` of the row whose number stands at `(n, p)`, clamped into the table. -/
theorem gather_apply (x : FVec Ideal S8192x1024 .f32) (idx : IVec S4x8192x1 32) (n : Fin 4) (p : Fin 8192) (c : Fin 1024) :
    Host.gather rowLookup x idx (ix3 n p c)
      = x (ix2 (clampRow (idx (ix3 n p (0 : Fin 1)))) c) := by
  unfold Host.gather
  refine congrArg x (funext fun a => Fin.ext ?_)
  match a with
  | ⟨0, _⟩ => exact lookup_row idx n p c
  | ⟨1, _⟩ => exact lookup_column idx n p c

/-- The word of a position names that row. -/
theorem clampRow_ofNat (p : Fin 8192) : clampRow (BitVec.ofNat 32 p.val) = p := by
  refine Fin.ext ?_
  unfold clampRow
  dsimp only
  rw [WordCmp.toInt_ofNat_of_lt (by omega)]
  omega

/-- The rows looked up: at `(n, p, c)`, entry `(p, c)` of the lookup table. -/
theorem found_apply (n : Fin 4) (p : Fin 8192) (c : Fin 1024) :
    Host.gather rowLookup lookup rowNumbers (ix3 n p c) = lookup (ix2 p c) := by
  rw [gather_apply, rowNumbers_apply, clampRow_ofNat]

/-- Entry `(p, c)` of the lookup table, times 32, is the position table's entry. -/
theorem lookup_scaled (p : Fin 8192) (c : Fin 1024) :
    lookup (ix2 p c) * Ideal.ofBits .f32 0x42000000#32 = ((Wave.entry p.val c.val : ℝ) : EReal) := by
  rw [lookup_apply, waves_apply, Consts.ofBits_32]
  unfold Wave.entry Wave.wave
  split_ifs
  · rw [zero_mul, EReal.coe_zero]
  · rw [EReal.coe_mul]
  · rw [EReal.coe_mul]

/-- The reference's result at `(n, p, c)`: zero in row 0, in every other row 32 times the sine or the cosine of row `p`'s
    angle in column `c`. -/
theorem result_apply (m : (ℓ : Loc nD τ sig) → Buf (Elt Ideal) ℓ) (d : Dev nD) (n : Fin 4) (p : Fin 8192) (c : Fin 1024) :
    (Value.res_main_v33 (F := Ideal) m d : FVec Ideal S4x8192x1024 .f32) (ix3 n p c)
      = ((Wave.entry p.val c.val : ℝ) : EReal) := by
  rw [result_eq]
  pointwise []
  rw [inTable_apply, found_apply]
  exact lookup_scaled p c

/-- The reference's result is the position table. -/
theorem result (m : (ℓ : Loc nD τ sig) → Buf (Elt Ideal) ℓ) (d : Dev nD) :
    Value.res_main_v33 (F := Ideal) m d
      = (fun y => ((Wave.entry (y 1).val (y 2).val : ℝ) : EReal) : FVec Ideal S4x8192x1024 .f32) := by
  funext y
  obtain ⟨n, p, c, rfl⟩ : ∃ (n : Fin 4) (p : Fin 8192) (c : Fin 1024), y = ix3 n p c := ⟨y 0, y 1, y 2, ValueIdx.eq_ix3 y⟩
  exact result_apply m d n p c

end Cert.ReferenceIdeal.RefValue

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.ArrayValue
public import proofs.«01_k».proof.Proof.RefValue
public import Idealize.ShloMosaic.Lib.Quiescent

@[expose] public section

noncomputable section

namespace Cert.Proof

open Idealize.ShloMosaic Idealize.SL.Sem

/-- The kernel runs, its arguments end unchanged and every counter reads zero again. -/
theorem frame_p : Cert.quiescent_Kernel := fun m ρ _ => Cert.Kernel.Run.frame m ρ

/-- The idealized kernel runs, its arguments end unchanged and every counter reads zero again. -/
theorem frame_pi : Cert.quiescent_KernelIdeal := fun m ρ _ => Cert.KernelIdeal.Run.frame m ρ

/-- The reference runs, its arguments end unchanged and every counter reads zero again: it has no counters. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's frequency constant is the named one, the real `−(1/512) · log 10000`. -/
theorem preserves : Cert.preserves_Kernel_KernelIdeal :=
  IdealRules.named_const.statement Cert.KernelIdeal.κ "freq" .f32 0xBC935D8E#32
    ((-((1 / 512) * (Real.log 10000)) : ℝ) : EReal) rfl

/-- The idealized kernel and the reference end with the same result, the position table, and with their arguments
    unchanged. -/
theorem algebraic : Cert.algebraic_KernelIdeal_ReferenceIdeal := by
  intro m ρ m' ρ' _ _
  refine ⟨fun _ => Cert.KernelIdeal.Array.table, Cert.KernelIdeal.Array.run m ρ, ?_⟩
  exact (θ_run Cert.ReferenceIdeal.defs _ _).mono
    (fun _ h c => ⟨(h c).1.trans (Cert.ReferenceIdeal.RefValue.result m' c), (h c).2⟩)
    (Cert.ReferenceIdeal.Value.run (F := Ideal) m' ρ')

/-- Every claim of the certificate. -/
theorem claim : Cert.Claim :=
  ⟨Cert.Kernel.Gen.facts, Cert.KernelIdeal.Gen.facts, Cert.ReferenceIdeal.Gen.facts,
    frame_p, frame_pi, frame_ri, preserves, algebraic⟩

end Cert.Proof

end
